-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v13) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S16384x4096 : Shape := ⟨2, ![16384, 4096]⟩
abbrev S256x4096 : Shape := ⟨2, ![256, 4096]⟩
abbrev S1x4096 : Shape := ⟨2, ![1, 4096]⟩

abbrev nBuf : Space → Nat
  | .hbm => 2
  | .vmem => 4
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S16384x4096 : Shape := ⟨2, ![16384, 4096]⟩
abbrev S2 : Shape := ⟨1, ![2]⟩
abbrev S_ : Shape := ⟨0, ![]⟩
abbrev S2x1 : Shape := ⟨2, ![2, 1]⟩
abbrev S2x2 : Shape := ⟨2, ![2, 2]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2, .i32⟩
  | .hbm, ⟨2, _⟩ => ⟨S2, .i32⟩
  | .hbm, ⟨3, _⟩ => ⟨S2, .f32⟩
  | .hbm, ⟨4, _⟩ => ⟨S_, .i32⟩
  | .hbm, ⟨5, _⟩ => ⟨S2, .i32⟩
  | .hbm, ⟨6, _⟩ => ⟨S2, .i1⟩
  | .hbm, ⟨7, _⟩ => ⟨S_, .i32⟩
  | .hbm, ⟨8, _⟩ => ⟨S2, .i32⟩
  | .hbm, ⟨9, _⟩ => ⟨S2, .i32⟩
  | .hbm, ⟨10, _⟩ => ⟨S2, .i32⟩
  | .hbm, ⟨11, _⟩ => ⟨S_, .i32⟩
  | .hbm, ⟨12, _⟩ => ⟨S2, .i32⟩
  | .hbm, ⟨13, _⟩ => ⟨S2, .i1⟩
  | .hbm, ⟨14, _⟩ => ⟨S_, .i32⟩
  | .hbm, ⟨15, _⟩ => ⟨S2, .i32⟩
  | .hbm, ⟨16, _⟩ => ⟨S2, .i32⟩
  | .hbm, ⟨17, _⟩ => ⟨S2, .i32⟩
  | .hbm, ⟨18, _⟩ => ⟨S2x1, .i32⟩
  | .hbm, ⟨19, _⟩ => ⟨S2x1, .i32⟩
  | .hbm, ⟨20, _⟩ => ⟨S2x2, .i32⟩
  | .hbm, ⟨21, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_cst : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_c_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_3 : Ref sig .tc := ⟨.hbm, 11, rfl⟩
abbrev main_v5 : Ref sig .tc := ⟨.hbm, 12, rfl⟩
abbrev main_v6 : Ref sig .tc := ⟨.hbm, 13, rfl⟩
abbrev main_c_4 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Proof.Overwrite.Spec.lean ====
/-
  The array that both programs compute, and the two facts about one row that a block's value rests on.
  A matrix of 16384 rows and 4096 columns is kept as it is except at two entries: the entry of row 0 in
  column 4094, and the entry of row 16383 in column 1. Nothing here names a program.
-/
module

public import Idealize.ShloMosaic.Lib.WritesUnit
public import Idealize.ShloMosaic.Lib.WordCmp
public import Idealize.ShloMosaic.Lib.ValueIdxCore
public import Idealize.ShloMosaic.Lib.Pipeline.Value

@[expose] public section

noncomputable section

namespace Cert.Overwrite

open Idealize.ShloMosaic Idealize.ShloMosaic.WordCmp

/-- The whole matrix. -/
abbrev Mat : Shape := ⟨2, ![16384, 4096]⟩
/-- One block: 256 rows of the matrix. -/
abbrev Blk : Shape := ⟨2, ![256, 4096]⟩
/-- One row of a block. -/
abbrev Row : Shape := ⟨2, ![1, 4096]⟩

/-- The matrix `x` with `u` at row 0, column 4094 and `v` at row 16383, column 1. -/
def corners {α : Type} (u v : α) (x : Mat.Idx → α) : Mat.Idx → α := fun i =>
  if (i 0).val = 0 ∧ (i 1).val = 4094 then u
  else if (i 0).val = 16383 ∧ (i 1).val = 1 then v
  else x i

/-- The block `x` with `u` at row `r`, column `k`. -/
def setAt {α : Type} (r k : ℕ) (u : α) (x : Blk.Idx → α) : Blk.Idx → α := fun y =>
  if (y 0).val = r ∧ (y 1).val = k then u else x y

/-- The row `x` with `u` wherever the column's number is the word `k`: each column's number is compared with `k`, and the comparison chooses. -/
def rowSet {α : Type} (k : BitVec 32) (u : α) (x : Row.Idx → α) : Row.Idx → α :=
  select (cmpi .eq (iota .tc Row 32 [1]) (broadcast Row k)) (broadcast Row u) x

/-- For a column number below 4096, the compared row at an index is `u` in that column and the old row's entry elsewhere. -/
theorem rowSet_apply {α : Type} (k : ℕ) (hk : k < 4096) (u : α) (x : Row.Idx → α) (y : Row.Idx) :
    rowSet (BitVec.ofNat 32 k) u x y = if (y 1).val = k then u else x y := by
  have hy : (y 1).val < 4096 := ValueIdx.idx2_lt1 y
  unfold rowSet
  rw [select_at, cmpi_at, iota_single_apply]
  show Scalar.select (IntOp.cmpi .eq (BitVec.ofNat 32 (y 1).val) (BitVec.ofNat 32 k)) u (x y) = _
  rw [cmpi_eq_ofNat (by omega) (by omega), select_decide]

section Store

variable {sig : RefSig} {κ : Kind} {sp : Space} {e : EltTy} {Val : EltTy → Type} (v : View sig κ sp Blk e) (f : v.ty.Contents Val)

/-- A block stored whole reads back as what was stored. -/
theorem read_whole (inb : ∀ a : Fin 2, (![0, 0] : Fin 2 → ℕ) a + (![256, 4096] : Fin 2 → ℕ) a ≤ Blk.size a) (x : Blk.Idx → Val e) :
    v.read Val (v.writes Val f [(⟨Rect.unit (s := Blk) ![0, 0] ![256, 4096] inb, x⟩ : View.Piece Val Blk e)]) = x :=
  funext fun y => View.read_writes_cons_rows_of_mem (o := 0) v f inb x [] y y rfl (Nat.zero_add _).symm rfl

/-- A block stored whole, then its row `r` stored over with one entry, column `k`, replaced by `u`: it reads back as the block with that one entry replaced. -/
theorem read_row (r k : ℕ) (hk : k < 4096) (u : Val e)
    (inbR : ∀ a : Fin 2, (![r, 0] : Fin 2 → ℕ) a + (![1, 4096] : Fin 2 → ℕ) a ≤ Blk.size a)
    (inb : ∀ a : Fin 2, (![0, 0] : Fin 2 → ℕ) a + (![256, 4096] : Fin 2 → ℕ) a ≤ Blk.size a) (x : Blk.Idx → Val e) :
    v.read Val (v.writes Val f
        [(⟨Rect.unit (s := Blk) ![r, 0] ![1, 4096] inbR,
            rowSet (BitVec.ofNat 32 k) u (View.ld x (Rect.unit (s := Blk) ![r, 0] ![1, 4096] inbR))⟩ : View.Piece Val Blk e),
          ⟨Rect.unit (s := Blk) ![0, 0] ![256, 4096] inb, x⟩])
      = setAt r k u x := by
  funext y
  by_cases hr : (y 0).val = r
  · have hz : (y 0).val = r + (ValueIdx.ix2 (0 : Fin 1) (y 1) 0).val := hr
    rw [View.read_writes_cons_rows_of_mem (o := r) v f inbR _ _ y (ValueIdx.ix2 (0 : Fin 1) (y 1)) rfl hz rfl, rowSet_apply k hk]
    have hy : (Rect.unit (s := Blk) ![r, 0] ![1, 4096] inbR).emb (ValueIdx.ix2 (0 : Fin 1) (y 1)) = y :=
      funext fun a => Fin.ext (by
        match a with
        | ⟨0, _⟩ => exact hr.symm
        | ⟨1, _⟩ => exact (Nat.zero_add _).trans (Nat.one_mul _))
    show (if (y 1).val = k then u else x ((Rect.unit (s := Blk) ![r, 0] ![1, 4096] inbR).emb (ValueIdx.ix2 (0 : Fin 1) (y 1)))) = _
    rw [hy]
    unfold setAt
    simp only [hr, true_and]
  · rw [View.read_writes_cons_rows_of_not_mem (o := r) (W := 1) v f inbR _ _ y rfl rfl (by omega), read_whole v f inb x]
    unfold setAt
    rw [if_neg fun h => hr h.1]

end Store

end Cert.Overwrite
-- ==== Proof.Overwrite.KernelIdealBlock.lean ====
/-
  What one grid step of `KernelIdeal` stores in its output block, from the input block `x` it was given: at the first
  step `x` with one at row 0, column 4094; at the last step `x` with five at row 255, column 1; else `x`.
-/
module

public import proofs.«01_k».proof.Proof.Overwrite.Spec
public import proofs.«01_k».proof.Proof.Gen.KernelIdeal.Value

@[expose] public section

noncomputable section

open Idealize.ShloMosaic Idealize.ShloMosaic.TcCoe Idealize.SL.Sem

namespace Cert.KernelIdeal.Corners

open Cert.KernelIdeal Cert.KernelIdeal.Gen Cert.Overwrite

variable {F : FTy → Type} [FloatOps F]

/-- The word stored in the first block. -/
abbrev one : F .f32 := FloatOps.ofBits .f32 0x3F800000#32
/-- The word stored in the last block. -/
abbrev five : F .f32 := FloatOps.ofBits .f32 0x40A00000#32

variable (c : Dev nD) (i : grid0.Coords) (a1 : Memref sig .tc .vmem S256x4096 .f32) (h1 : a1.IsWhole)
  (a2 : Memref sig .tc .vmem S256x4096 .f32) (h2 : a2.IsWhole) (x : Vec F S256x4096 .f32)

/-- Loading a whole block gives the block. -/
theorem ld_whole : View.ld x (Rect.unit (s := S256x4096) ![0, 0] ![256, 4096] inb_S256x4096_S256x4096_0_0) = x :=
  View.ld_unit_zero (S := S256x4096) (by decide) _ x

/-- The first step. -/
theorem out_first (hc : cond0_0 i) (hc' : ¬ cond0_1 i) : out0_A_1 c i a1 h1 a2 h2 hc hc' x = setAt 0 4094 one x := by
  unfold out0_A_1 kernelRun0_A
  dsimp only
  simp only [View.readAt_eq_ld, h1.read_unread]
  rw [ld_whole]
  exact read_row _ _ 0 4094 (by decide) _ _ _ x

/-- A step between the first and the last. -/
theorem out_middle (hc : ¬ cond0_0 i) (hc' : ¬ cond0_1 i) : out0_B_1 c i a1 h1 a2 h2 hc hc' x = x := by
  unfold out0_B_1 kernelRun0_B
  dsimp only
  simp only [View.readAt_eq_ld, h1.read_unread]
  rw [ld_whole]
  exact read_whole _ _ _ x

/-- The last step. -/
theorem out_last (hc : ¬ cond0_0 i) (hc' : cond0_1 i) : out0_C_1 c i a1 h1 a2 h2 hc hc' x = setAt 255 1 five x := by
  unfold out0_C_1 kernelRun0_C
  dsimp only
  simp only [View.readAt_eq_ld, h1.read_unread]
  rw [ld_whole]
  exact read_row _ _ 255 1 (by decide) _ _ _ x

end Cert.KernelIdeal.Corners
-- ==== Proof.Overwrite.KernelIdeal.lean ====
/-
  What `KernelIdeal`'s result array holds: each grid step writes back the block of rows 256 t to 256 t + 255 of the
  argument with its two entries replaced, and the 64 blocks cover the array.
-/
module

public import proofs.«01_k».proof.Proof.Overwrite.KernelIdealBlock

@[expose] public section

noncomputable section

open Idealize.ShloMosaic Idealize.ShloMosaic.TcCoe Idealize.SL.Sem

namespace Cert.KernelIdeal.Corners

open Cert.KernelIdeal Cert.KernelIdeal.Gen Cert.Overwrite

variable {F : FTy → Type} [FloatOps F] (m : (ℓ : Loc nD τ sig) → Buf (Elt F) ℓ)

/-- Step `t`'s output block starts at row 256 t and column 0. -/
theorem index_out : ∀ t : Fin grid0.N, win0_1.index t 0 = t.val ∧ win0_1.index t 1 = 0 := by decide +kernel

/-- Row `y 0`, column `y 1` of step `t`'s output block is row 256 t + y 0, column y 1 of the array. -/
theorem emb_out (t : Fin grid0.N) (y : (win0_1.xblock (grid0.coords t)).Idx) :
    ((win0_1.rect t).emb y 0).val = t.val * 256 + (y 0).val ∧ ((win0_1.rect t).emb y 1).val = (y 1).val := by
  have h0 := win0_1.rect_emb_val t y 0
  have h1 := win0_1.rect_emb_val t y 1
  rw [(index_out t).1] at h0
  rw [(index_out t).2, Nat.zero_mul, Nat.zero_add] at h1
  exact ⟨h0, h1⟩

/-- The array with its two entries replaced, read at an entry of step `t`'s block. -/
theorem corners_emb {α : Type} (u v : α) (x : Mat.Idx → α) (t : Fin grid0.N) (y : (win0_1.xblock (grid0.coords t)).Idx) :
    corners u v x ((win0_1.rect t).emb y)
      = if t.val * 256 + (y 0).val = 0 ∧ (y 1).val = 4094 then u
        else if t.val * 256 + (y 0).val = 16383 ∧ (y 1).val = 1 then v else x ((win0_1.rect t).emb y) := by
  rw [← (emb_out t y).1, ← (emb_out t y).2]
  rfl

/-- What step `t` writes back is its block of the argument with the two entries replaced. -/
theorem flushed (c : Dev nD) (t : Fin cfg0.N) :
    (dats m 0 c).flushed 1 t
      = ((cfg0.win 1).blk t).view.read (Elt F) (corners one five (m ((c.tc : Thread nD τ).loc main_arg0))) := by
  have ht : t.val < 64 := t.isLt
  funext y
  have hy : (y 0).val < 256 := ValueIdx.idx2_lt0 (n0 := 256) (n1 := 4096) y
  refine Eq.trans ?_ (corners_emb one five (m ((c.tc : Thread nD τ).loc main_arg0)) t y).symm
  by_cases h0 : t.val % 64 = 0
  · have h1 : ¬ t.val % 64 = 63 := by omega
    rw [Value.flushed1_A m c t h0 h1, out_first]
    show (if (y 0).val = 0 ∧ (y 1).val = 4094 then one else m ((c.tc : Thread nD τ).loc main_arg0) ((win0_1.rect t).emb y)) = _
    rw [if_neg (c := t.val * 256 + (y 0).val = 16383 ∧ (y 1).val = 1) (by omega)]
    exact if_congr (by omega) rfl rfl
  · by_cases h1 : t.val % 64 = 63
    · rw [Value.flushed1_C m c t h0 h1, out_last]
      show (if (y 0).val = 255 ∧ (y 1).val = 1 then five else m ((c.tc : Thread nD τ).loc main_arg0) ((win0_1.rect t).emb y)) = _
      rw [if_neg (c := t.val * 256 + (y 0).val = 0 ∧ (y 1).val = 4094) (by omega)]
      exact if_congr (by omega) rfl rfl
    · rw [Value.flushed1_B m c t h0 h1, out_middle, if_neg (by omega), if_neg (by omega)]
      rfl

/-- Every entry of the array lies in the block of some step that writes back. -/
theorem cover (i : Mat.Idx) : ∃ t : Fin cfg0.N, (cfg0.win 1).flush t = true ∧ i ∈ ((cfg0.win 1).blk t).view.set := by
  have hi : (i 0).val < 16384 := ValueIdx.idx2_lt0 i
  let t : Fin cfg0.N := ⟨(i 0).val / 256, by show _ < 64; omega⟩
  let y : (win0_1.xblock (grid0.coords t)).Idx :=
    ValueIdx.ix2 (n0 := 256) (n1 := 4096) ⟨(i 0).val % 256, by omega⟩ (i 1)
  have e : (win0_1.rect t).emb y = i := Shape.idx_ext₂
    ((emb_out t y).1.trans (by show (i 0).val / 256 * 256 + (i 0).val % 256 = (i 0).val; omega))
    (emb_out t y).2
  have hm := ((cfg0.win 1).blk t).view.emb_mem_set y
  exact ⟨t, flush0_1 t, e ▸ hm⟩

/-- The program's result is the argument with one at row 0, column 4094 and five at row 16383, column 1; the argument is kept. -/
theorem run (ρ : Dev nD → PrngReg) :
    θ_run defs (onTc (τ := τ) (main (F := F))) ⟨m, fun _ => 0, ρ⟩ fun r => ∀ c : Dev nD,
      r.2.mem ((c.tc : Thread nD τ).loc main_v0) = corners one five (m ((c.tc : Thread nD τ).loc main_arg0))
      ∧ r.2.mem ((c.tc : Thread nD τ).loc main_arg0) = m ((c.tc : Thread nD τ).loc main_arg0) :=
  (θ_run defs _ _).mono (fun _ h c => ⟨(h c).1.trans
      ((dats m 0 c).arrAt_eq_of_cover 1 _ (fun t _ => flushed m c t) cover), (h c).2⟩) (Value.run_blocks m ρ)

end Cert.KernelIdeal.Corners
-- ==== Proof.Overwrite.Scatter.lean ====
/-
  A scatter that sets two entries of the matrix: its index table has one row per update, the row holding the
  matrix's row number and column number, and its body returns the update. Nothing here names a program.
-/
module

public import proofs.«01_k».proof.Proof.Overwrite.Spec
public import Idealize.ShloMosaic.Lib.Routing.OpsSet

@[expose] public section

noncomputable section

namespace Cert.Overwrite

open Idealize.ShloMosaic Idealize.ShloMosaic.ValueIdx

/-- The index table: two rows of two words. -/
abbrev Tab : Shape := ⟨2, ![2, 2]⟩
/-- The two updates. -/
abbrev Two : Shape := ⟨1, ![2]⟩

/-- Such a scatter's dimension numbers: no window axis, both axes of the matrix read off the index table's rows. -/
abbrev dims (wf : ScatterDims.WF Mat Tab Two [] [0, 1] [0, 1] 1) : ScatterDims Mat Tab Two where
  updateWindowDims := []
  insertedWindowDims := [0, 1]
  scatterDimsToOperandDims := [0, 1]
  indexVectorDim := 1
  wf := wf

variable (wf : ScatterDims.WF Mat Tab Two [] [0, 1] [0, 1] 1)

/-- Update `n` lands at the entry whose row and column numbers are the two words of the table's row `n`. -/
theorem lands (n : Fin 2) (idx : IVec Tab 32) (i : Mat.Idx) :
    (dims wf).resultIdx? (ix1 n) idx = some i
      ↔ (idx (ix2 n (0 : Fin 2))).toInt = ((i 0).val : Int) ∧ (idx (ix2 n (1 : Fin 2))).toInt = ((i 1).val : Int) := by
  have e0 : (dims wf).siIdx (ix1 n) ⟨0, Nat.zero_lt_two⟩ = ix2 n (0 : Fin 2) := Shape.idx_ext₂ rfl rfl
  have e1 : (dims wf).siIdx (ix1 n) ⟨1, Nat.one_lt_two⟩ = ix2 n (1 : Fin 2) := Shape.idx_ext₂ rfl rfl
  have s0 : (dims wf).start (ix1 n) idx 0 = (idx (ix2 n (0 : Fin 2))).toInt := congrArg (fun j => (idx j).toInt) e0
  have s1 : (dims wf).start (ix1 n) idx 1 = (idx (ix2 n (1 : Fin 2))).toInt := congrArg (fun j => (idx j).toInt) e1
  have w0 : (dims wf).window (ix1 n) 0 = 0 := rfl
  have w1 : (dims wf).window (ix1 n) 1 = 0 := rfl
  rw [Routing.resultIdx?_eq_some]
  refine Fin.forall_fin_two.trans ?_
  rw [s0, s1, w0, w1, Int.ofNat_zero, Int.add_zero, Int.add_zero]

/-- With the table's rows (0, 4094) and (16383, 1), the scatter gives the matrix with the two updates at those two entries. -/
theorem scatter_corners {α : Type} (idx : IVec Tab 32) (upd : Two.Idx → α) (x : Mat.Idx → α)
    (h00 : (idx (ix2 (0 : Fin 2) (0 : Fin 2))).toInt = 0) (h01 : (idx (ix2 (0 : Fin 2) (1 : Fin 2))).toInt = 4094)
    (h10 : (idx (ix2 (1 : Fin 2) (0 : Fin 2))).toInt = 16383) (h11 : (idx (ix2 (1 : Fin 2) (1 : Fin 2))).toInt = 1) :
    Host.scatter (dims wf) (fun _ b => b) x idx upd = corners (upd (ix1 (0 : Fin 2))) (upd (ix1 (1 : Fin 2))) x := by
  have l0 (i : Mat.Idx) : (dims wf).resultIdx? (ix1 (0 : Fin 2)) idx = some i ↔ (i 0).val = 0 ∧ (i 1).val = 4094 := by
    rw [lands, h00, h01]; omega
  have l1 (i : Mat.Idx) : (dims wf).resultIdx? (ix1 (1 : Fin 2)) idx = some i ↔ (i 0).val = 16383 ∧ (i 1).val = 1 := by
    rw [lands, h10, h11]; omega
  have two (P : Two.Idx → Prop) (p0 : P (ix1 (0 : Fin 2))) (p1 : P (ix1 (1 : Fin 2))) : ∀ k, P k := fun k => by
    have hk : k = ix1 (k 0) := eq_ix1 k
    rw [hk]
    exact Fin.forall_fin_two (p := fun n : Fin 2 => P (ix1 n)) |>.mpr ⟨p0, p1⟩ (k 0)
  funext i
  unfold corners
  by_cases c0 : (i 0).val = 0 ∧ (i 1).val = 4094
  · rw [if_pos c0]
    refine Routing.scatter_set_hit _ x idx upd i _ (two _ (fun _ => rfl) fun h => ?_) _ ((l0 i).mpr c0)
    have := (l1 i).mp h
    omega
  · rw [if_neg c0]
    by_cases c1 : (i 0).val = 16383 ∧ (i 1).val = 1
    · rw [if_pos c1]
      exact Routing.scatter_set_hit _ x idx upd i _ (two _ (fun h => (c0 ((l0 i).mp h)).elim) fun _ => rfl) _ ((l1 i).mpr c1)
    · rw [if_neg c1]
      exact Routing.scatter_set_miss _ x idx upd i (two _ (fun h => c0 ((l0 i).mp h)) fun h => c1 ((l1 i).mp h))

end Cert.Overwrite
-- ==== Proof.Overwrite.Reference.lean ====
/-
  What `Reference` computes: its scatter's index table holds (0, 4094) and (16383, 1), and its updates are the
  constants one and five, so its result is the argument with those two entries replaced.
-/
module

public import proofs.«01_k».proof.Proof.Overwrite.Scatter
public import proofs.«01_k».proof.Proof.Gen.Reference.Run
public import Idealize.ShloMosaic.Lib.Quiescent

@[expose] public section

noncomputable section

open Idealize.ShloMosaic Idealize.ShloMosaic.TcCoe Idealize.SL.Sem

namespace Cert.Reference.Corners

open Cert.Reference Cert.Overwrite

variable {F : FTy → Type} [FloatOps F]

/-- The program's result is the argument with one at row 0, column 4094 and five at row 16383, column 1; the argument is kept. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
          = corners (FloatOps.ofBits .f32 0x3F800000#32 : F .f32) (FloatOps.ofBits .f32 0x40A00000#32) (m ((c.tc : Thread nD τ).loc main_arg0))
      ∧ r.2.mem ((c.tc : Thread nD τ).loc main_arg0) = m ((c.tc : Thread nD τ).loc main_arg0) :=
  (θ_run defs _ _).mono (fun r h c => ⟨(h c).1.trans (by
      refine scatter_corners _ _ _ _ ?_ ?_ ?_ ?_
      · rfl
      · rfl
      · rfl
      · rfl), (h c).2⟩) (Value.run m ρ)

end Cert.Reference.Corners
-- ==== Proof.Overwrite.ReferenceIdeal.lean ====
/-
  What `ReferenceIdeal` computes: its scatter's index table holds (0, 4094) and (16383, 1), and its updates are the
  constants one and five, so its result is the argument with those two entries replaced.
-/
module

public import proofs.«01_k».proof.Proof.Overwrite.Scatter
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.ReferenceIdeal.Corners

open Cert.ReferenceIdeal Cert.Overwrite

variable {F : FTy → Type} [FloatOps F]

/-- The program's result is the argument with one at row 0, column 4094 and five at row 16383, column 1; the argument is kept. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13)
          = corners (FloatOps.ofBits .f32 0x3F800000#32 : F .f32) (FloatOps.ofBits .f32 0x40A00000#32) (m ((c.tc : Thread nD τ).loc main_arg0))
      ∧ r.2.mem ((c.tc : Thread nD τ).loc main_arg0) = m ((c.tc : Thread nD τ).loc main_arg0) :=
  (θ_run defs _ _).mono (fun r h c => ⟨(h c).1.trans (by
      refine scatter_corners _ _ _ _ ?_ ?_ ?_ ?_
      · rfl
      · rfl
      · rfl
      · rfl), (h c).2⟩) (Value.run m ρ)

end Cert.ReferenceIdeal.Corners
-- ==== Proof.lean ====
/-
  The certificate of the kernel: both programs give the argument with one at row 0, column 4094 and five at
  row 16383, column 1, and every other entry as it was. They only move words, so the results are equal bit for
  bit in the machine's arithmetic as well as in exact arithmetic.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Kernel.Value
public import proofs.«01_k».proof.Proof.Gen.KernelIdeal.Value
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Overwrite.Kernel
public import proofs.«01_k».proof.Proof.Overwrite.KernelIdeal
public import proofs.«01_k».proof.Proof.Overwrite.Reference
public import proofs.«01_k».proof.Proof.Overwrite.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem

/-- `Reference` runs, keeps its argument, and leaves every semaphore at zero. -/
theorem quiet_Reference : Cert.quiescent_Reference := fun m ρ _ =>
  (θ_run (Cert.Reference.defs (F := Bits)) _ _).mono
    (fun r h => ⟨fun c => (h c).2, Idealize.ShloMosaic.sem_eq_zero_of_no_sems (by decide) r.2⟩) (Cert.Reference.Corners.run m ρ)

/-- `ReferenceIdeal` runs, keeps its argument, and leaves every semaphore at zero. -/
theorem quiet_ReferenceIdeal : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩) (Cert.ReferenceIdeal.Corners.run m ρ)

/-- In exact arithmetic the kernel's result and the reference's are the same array, the argument with its two entries replaced. -/
theorem algebraic : Cert.algebraic_KernelIdeal_ReferenceIdeal := fun m g m' g' _ hagree =>
  ⟨fun c => Overwrite.corners (Cert.KernelIdeal.Corners.one (F := Ideal)) (Cert.KernelIdeal.Corners.five (F := Ideal)) (m ((c.tc : Thread Cert.KernelIdeal.nD Cert.KernelIdeal.τ).loc Cert.KernelIdeal.main_arg0)),
    Cert.KernelIdeal.Corners.run m g,
    (θ_run (Cert.ReferenceIdeal.defs (F := Ideal)) _ _).mono (fun _ h c => ⟨(h c).1.trans
      (congrArg (Overwrite.corners (Cert.KernelIdeal.Corners.one (F := Ideal)) (Cert.KernelIdeal.Corners.five (F := Ideal))) (hagree c)), (h c).2⟩) (Cert.ReferenceIdeal.Corners.run m' g')⟩

/-- In the machine's arithmetic the two results are the same array, bit for bit. -/
theorem bitexact : Cert.bitexact_Kernel_Reference := fun m g m' g' _ hagree =>
  ⟨fun c => Overwrite.corners (Cert.Kernel.Corners.one (F := Bits)) (Cert.Kernel.Corners.five (F := Bits)) (m ((c.tc : Thread Cert.Kernel.nD Cert.Kernel.τ).loc Cert.Kernel.main_arg0)),
    Cert.Kernel.Corners.run m g,
    (θ_run (Cert.Reference.defs (F := Bits)) _ _).mono (fun _ h c => ⟨(h c).1.trans
      (congrArg (Overwrite.corners (Cert.Kernel.Corners.one (F := Bits)) (Cert.Kernel.Corners.five (F := Bits))) (hagree c)), (h c).2⟩) (Cert.Reference.Corners.run m' g')⟩

/-- Every claim of the certificate. -/
theorem claim : Cert.Claim := ⟨Cert.Kernel.Gen.facts, Cert.KernelIdeal.Gen.facts, Cert.Reference.Gen.facts, Cert.ReferenceIdeal.Gen.facts,
  fun m ρ _ => Cert.Kernel.Gen.frame m ρ, fun m ρ _ => Cert.KernelIdeal.Gen.frame m ρ, quiet_Reference, quiet_ReferenceIdeal,
  trivial, algebraic, bitexact⟩

end Cert.Proof

end
